-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_bank [hPre_finite_bank : Cert.Pre_finite_bank.Facts] (m : (ℓ : Loc Cert.KernelIdeal.nD Cert.KernelIdeal.τ Cert.KernelIdeal.sig) → Buf (Elt Ideal) ℓ) : Prop :=
  ∀ c : Dev Cert.KernelIdeal.nD,
    (Cert.Pre_finite_bank.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_bank [hPre_finite_bank : Cert.Pre_finite_bank.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_bank.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_bank [hKernelIdeal : Cert.KernelIdeal.Facts] [hPre_finite_bank : Cert.Pre_finite_bank.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_bank m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_bank [hReferenceIdeal : Cert.ReferenceIdeal.Facts] [hPre_finite_bank : Cert.Pre_finite_bank.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_bank m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_bank [hKernelIdeal : Cert.KernelIdeal.Facts] [hReferenceIdeal : Cert.ReferenceIdeal.Facts] [hPre_finite_bank : Cert.Pre_finite_bank.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_bank m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_bank : Cert.Pre_finite_bank.Facts),
    quiescent_Kernel (hKernel := hKernel)
    ∧ quiescent_KernelIdeal (hKernelIdeal := hKernelIdeal)
    ∧ quiescent_KernelIdeal_pre_finite_bank (hKernelIdeal := hKernelIdeal) (hPre_finite_bank := hPre_finite_bank)
    ∧ quiescent_ReferenceIdeal (hReferenceIdeal := hReferenceIdeal)
    ∧ quiescent_ReferenceIdeal_pre_finite_bank (hReferenceIdeal := hReferenceIdeal) (hPre_finite_bank := hPre_finite_bank)
    ∧ preserves_Kernel_KernelIdeal
    ∧ algebraic_KernelIdeal_ReferenceIdeal_pre_finite_bank (hKernelIdeal := hKernelIdeal) (hReferenceIdeal := hReferenceIdeal) (hPre_finite_bank := hPre_finite_bank)
-- ==== Pre_finite_bank.lean ====
abbrev S1024x768 : Shape := ⟨2, ![1024, 768]⟩
abbrev S50000x768 : Shape := ⟨2, ![50000, 768]⟩
abbrev S_ : Shape := ⟨0, ![]⟩

class Facts : Prop where
  bcast_S_S50000x768 : S_.BroadcastsInDim S50000x768 (![] : Fin 0 → Fin S50000x768.rank)

variable [Facts]

def fn {F : FTy → Type} [FloatOps F] (main_arg0 : FVec F S1024x768 .f32) (main_arg1 : FVec F S50000x768 .f32) : IVec S50000x768 1 :=
  let main_v0 : FVec F S50000x768 .f32 := Host.absf main_arg1
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  main_v2
-- ==== Kernel.lean ====
abbrev S1024x768 : Shape := ⟨2, ![1024, 768]⟩
abbrev S50000x768 : Shape := ⟨2, ![50000, 768]⟩
abbrev S_ : Shape := ⟨0, ![]⟩
abbrev S1024 : Shape := ⟨1, ![1024]⟩
abbrev S1024x1 : Shape := ⟨2, ![1024, 1]⟩
abbrev S5000x768 : Shape := ⟨2, ![5000, 768]⟩
abbrev S5000 : Shape := ⟨1, ![5000]⟩
abbrev S5000x1 : Shape := ⟨2, ![5000, 1]⟩
abbrev S1x5000 : Shape := ⟨2, ![1, 5000]⟩
abbrev S1024x5000 : Shape := ⟨2, ![1024, 5000]⟩

abbrev nBuf : Space → Nat
  | .hbm => 9
  | .vmem => 6
  | .smem => 0
  | _ => 0

abbrev bufTy : (tb : Table) → Fin (tcTables nBuf tb) → BufTy
  | .hbm, ⟨0, _⟩ => ⟨S1024x768, .f32⟩
  | .hbm, ⟨1, _⟩ => ⟨S50000x768, .f32⟩
  | .hbm, ⟨2, _⟩ => ⟨S1024x768, .fp8e4m3⟩
  | .hbm, ⟨3, _⟩ => ⟨S1024x768, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S1024, .f32⟩
  | .local _ .vmem, ⟨0, _⟩ => ⟨S1024x768, .fp8e4m3⟩
  | .local _ .vmem, ⟨1, _⟩ => ⟨S1024x1, .f32⟩
  | .local _ .vmem, ⟨2, _⟩ => ⟨S5000x768, .f32⟩
  | .local _ .vmem, ⟨3, _⟩ => ⟨S5000x768, .f32⟩
  | .local _ .vmem, ⟨4, _⟩ => ⟨S1024x1, .f32⟩
  | .local _ .vmem, ⟨5, _⟩ => ⟨S1024x1, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1024x768 : Shape := ⟨2, ![1024, 768]⟩
abbrev S50000x768 : Shape := ⟨2, ![50000, 768]⟩
abbrev S_ : Shape := ⟨0, ![]⟩
abbrev S1024 : Shape := ⟨1, ![1024]⟩
abbrev S1024x1 : Shape := ⟨2, ![1024, 1]⟩
abbrev S50000 : Shape := ⟨1, ![50000]⟩
abbrev S1x50000 : Shape := ⟨2, ![1, 50000]⟩
abbrev S1024x50000 : Shape := ⟨2, ![1024, 50000]⟩
abbrev S768x50000 : Shape := ⟨2, ![768, 50000]⟩

abbrev nBuf : Space → Nat
  | .hbm => 32
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S50000x768, .f32⟩
  | .hbm, ⟨2, _⟩ => ⟨S1024x768, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S50000x768, .f32⟩
  | .hbm, ⟨7, _⟩ => ⟨S_, .f32⟩
  | .hbm, ⟨8, _⟩ => ⟨S50000, .f32⟩
  | .hbm, ⟨9, _⟩ => ⟨S1x50000, .f32⟩
  | .hbm, ⟨10, _⟩ => ⟨S1024x50000, .f32⟩
  | .hbm, ⟨11, _⟩ => ⟨S1024x50000, .f32⟩
  | .hbm, ⟨12, _⟩ => ⟨S1024x50000, .f32⟩
  | .hbm, ⟨13, _⟩ => ⟨S768x50000, .f32⟩
  | .hbm, ⟨14, _⟩ => ⟨S1024x50000, .f32⟩
  | .hbm, ⟨15, _⟩ => ⟨S_, .f32⟩
  | .hbm, ⟨16, _⟩ => ⟨S1024x50000, .f32⟩
  | .hbm, ⟨17, _⟩ => ⟨S1024x50000, .f32⟩
  | .hbm, ⟨18, _⟩ => ⟨S1024x50000, .f32⟩
  | .hbm, ⟨19, _⟩ => ⟨S_, .f32⟩
  | .hbm, ⟨20, _⟩ => ⟨S1024x50000, .f32⟩
  | .hbm, ⟨21, _⟩ => ⟨S1024x50000, .f32⟩
  | .hbm, ⟨22, _⟩ => ⟨S1024x50000, .f32⟩
  | .hbm, ⟨23, _⟩ => ⟨S1024x50000, .f32⟩
  | .hbm, ⟨24, _⟩ => ⟨S1024x1, .f32⟩
  | .hbm, ⟨25, _⟩ => ⟨S1024x1, .i32⟩
  | .hbm, ⟨26, _⟩ => ⟨S1024x1, .f32⟩
  | .hbm, ⟨27, _⟩ => ⟨S_, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_values : Ref sig .tc := ⟨.hbm, 24, rfl⟩
abbrev main_indices : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Proof.IdealBody.lean ====
/- What one run of the ideal kernel's body leaves in its scratch and in its output buffer. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import Idealize.ShloMosaic.Lib.Claim

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 1000000 in
/-- Before the last point the body leaves its inputs and its output buffer as they were, and the scratch at the
    running maximum `k0_pay1` of the block, over what the scratch held. -/
theorem body_early (c : Dev nD) (i : grid0.Coords)
    (a1 : Memref sig .tc .vmem S1024x768 .fp8e4m3) (h1 : a1.IsWhole) (a2 : Memref sig .tc .vmem S1024x1 .f32) (h2 : a2.IsWhole)
    (a3 : Memref sig .tc .vmem S5000x768 .f32) (h3 : a3.IsWhole) (a4 : Memref sig .tc .vmem S1024x1 .f32) (h4 : a4.IsWhole)
    (a5 : Memref sig .tc .vmem S1024x1 .f32) (h5 : a5.IsWhole) (hc : ¬k0_cond1 i = 1#1)
    (q8 : Vec F S1024x768 .fp8e4m3) (qsq : Vec F S1024x1 .f32) (mb : Vec F S5000x768 .f32) (o s : Vec F S1024x1 .f32)
    (E : Set ℕ) (K : PUnit → sProp 𝕄) :
    iprop(owns (c : Thread nD τ) a1 fullShare q8 ∗ owns (c : Thread nD τ) a2 fullShare qsq ∗ owns (c : Thread nD τ) a3 fullShare mb
        ∗ owns (c : Thread nD τ) a4 fullShare o ∗ owns (c : Thread nD τ) a5 fullShare s
        ∗ (iprop(owns (c : Thread nD τ) a1 fullShare q8 ∗ owns (c : Thread nD τ) a2 fullShare qsq ∗ owns (c : Thread nD τ) a3 fullShare mb
            ∗ owns (c : Thread nD τ) a4 fullShare o ∗ owns (c : Thread nD τ) a5 fullShare (k0_pay1 i mb q8 s)) -∗ K ⟨⟩))
      ⊢ wp frame (wpE (defs₀ (F := F)) Variants.none c none) E (cc0__knn_block i a1 h1 a2 h2 a3 h3 a4 h4 a5 h5) K := by
  simp only [cc0__knn_block_eq_skeleton]; unfold cc0__knn_block_skel
  unfold owns
  iintro ⟨⟨%f1, %e1, H1⟩, ⟨%f2, %e2, H2⟩, ⟨%f3, %e3, H3⟩, ⟨%f4, %e4, H4⟩, ⟨%f5, %e5, H5⟩, Hk⟩
  obtain rfl := h1.eq_unread e1; obtain rfl := h2.eq_unread e2; obtain rfl := h3.eq_unread e3
  obtain rfl := h4.eq_unread e4; obtain rfl := h5.eq_unread e5
  sl_exec (disch := sl_exact hc)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  iexists _; isplitr
  swap; · iexact H5
  ipureintro
  refine (View.read_writes_full _ _ _ _ _).trans ?_
  rw [View.readAt_full, View.readAt_full, View.readAt_full, h1.read_unread, h3.read_unread, h5.read_unread]

set_option maxHeartbeats 1000000 in
/-- At the last point the body leaves its inputs as they were, the scratch at the running maximum, and the output
    buffer at `k0_pay2` of the norms and that maximum. -/
theorem body_last (c : Dev nD) (i : grid0.Coords)
    (a1 : Memref sig .tc .vmem S1024x768 .fp8e4m3) (h1 : a1.IsWhole) (a2 : Memref sig .tc .vmem S1024x1 .f32) (h2 : a2.IsWhole)
    (a3 : Memref sig .tc .vmem S5000x768 .f32) (h3 : a3.IsWhole) (a4 : Memref sig .tc .vmem S1024x1 .f32) (h4 : a4.IsWhole)
    (a5 : Memref sig .tc .vmem S1024x1 .f32) (h5 : a5.IsWhole) (hc : k0_cond1 i = 1#1)
    (q8 : Vec F S1024x768 .fp8e4m3) (qsq : Vec F S1024x1 .f32) (mb : Vec F S5000x768 .f32) (o s : Vec F S1024x1 .f32)
    (E : Set ℕ) (K : PUnit → sProp 𝕄) :
    iprop(owns (c : Thread nD τ) a1 fullShare q8 ∗ owns (c : Thread nD τ) a2 fullShare qsq ∗ owns (c : Thread nD τ) a3 fullShare mb
        ∗ owns (c : Thread nD τ) a4 fullShare o ∗ owns (c : Thread nD τ) a5 fullShare s
        ∗ (iprop(owns (c : Thread nD τ) a1 fullShare q8 ∗ owns (c : Thread nD τ) a2 fullShare qsq ∗ owns (c : Thread nD τ) a3 fullShare mb
            ∗ owns (c : Thread nD τ) a4 fullShare (k0_pay2 qsq (k0_pay1 i mb q8 s))
            ∗ owns (c : Thread nD τ) a5 fullShare (k0_pay1 i mb q8 s)) -∗ K ⟨⟩))
      ⊢ wp frame (wpE (defs₀ (F := F)) Variants.none c none) E (cc0__knn_block i a1 h1 a2 h2 a3 h3 a4 h4 a5 h5) K := by
  simp only [cc0__knn_block_eq_skeleton]; unfold cc0__knn_block_skel
  unfold owns
  iintro ⟨⟨%f1, %e1, H1⟩, ⟨%f2, %e2, H2⟩, ⟨%f3, %e3, H3⟩, ⟨%f4, %e4, H4⟩, ⟨%f5, %e5, H5⟩, Hk⟩
  obtain rfl := h1.eq_unread e1; obtain rfl := h2.eq_unread e2; obtain rfl := h3.eq_unread e3
  obtain rfl := h4.eq_unread e4; obtain rfl := h5.eq_unread e5
  sl_exec (disch := sl_exact hc)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    unfold body_last.sl.v30 body_last.sl.H5_1
    refine (View.read_writes_full _ _ _ _ _).trans ?_
    rw [View.readCov_full, View.readAt_full, View.readAt_full, View.readAt_full, View.readAt_full, h1.read_unread,
      h2.read_unread, h3.read_unread, h5.read_unread]
  iexists _; isplitr
  swap; · iexact H5
  ipureintro
  unfold body_last.sl.H5_1
  refine (View.read_writes_full _ _ _ _ _).trans ?_
  rw [View.readAt_full, View.readAt_full, View.readAt_full, h1.read_unread, h3.read_unread, h5.read_unread]

end Cert.KernelIdeal.Knn

end
-- ==== Proof.IdealFrame.lean ====
/- The ideal kernel's run: the scratch carries a running maximum from point to point, the output block is written
   at the last point only; the program ends with its arguments unchanged and every counter at zero. -/
module

public import proofs.«01_k».proof.Proof.IdealBody

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

variable {F : FTy → Type} [FloatOps F]

local notation "𝕄" => MT nD τ sig Unit (Elt F) ℕ (UR sig nD τ) ℕ

/-- The grid has ten points. -/
theorem point_lt (t : Fin cfg0.N) : t.val < 10 := lt_of_lt_of_eq t.isLt N_0

/-- A point's coordinate is its position. -/
theorem coord_val (t : Fin cfg0.N) : (grid0.coords t 0).val = t.val := by
  have h : (grid0.coords t 0).val = t.val / 1 % 10 := Pipeline.Grid.coords_val t 0 (by decide) rfl
  have := point_lt t
  omega

/-- The body's condition holds at the last point only. -/
theorem cond_iff (t : Fin cfg0.N) : k0_cond1 (grid0.coords t) = 1#1 ↔ t.val = 9 := by
  have ht := point_lt t
  have e := coord_val t
  simp only [k0_cond1, e]
  word_cmp

/-- Before the last point the output window is idle: nothing is stored into it, and it is not written back. -/
theorem out_idle : ∀ t : Fin cfg0.N, t.val ≠ 9 → cfg0.idle 3 (grid0.coords t) = true ∧ (cfg0.win 3).flush t = false := by
  decide +kernel

/-- At the last point the output window is live. -/
theorem out_live : ∀ t : Fin cfg0.N, t.val = 9 → cfg0.idle 3 (grid0.coords t) = false := by decide +kernel

/-- At the first point the new running maximum is the block's own: the scratch's old contents are not used. -/
theorem pay1_first (i : grid0.Coords) (hi : (i 0).val = 0) (mb : Vec F S5000x768 .f32) (q8 : Vec F S1024x768 .fp8e4m3)
    (s s' : Vec F S1024x1 .f32) : k0_pay1 i mb q8 s = k0_pay1 i mb q8 s' := by
  unfold k0_pay1
  rw [hi]
  rfl

variable (m : (ℓ : Loc nD τ sig) → Buf (Elt F) ℓ) (ρ : Dev nD → PrngReg)

/-- The running maximum after point `n`. (At the first point the old contents are not used; any will do.) -/
def acc (c : Dev nD) : (n : ℕ) → n < cfg0.N → Vec F S1024x1 .f32
  | 0, h => k0_pay1 (grid0.coords ⟨0, h⟩) (iblk m c 2 ⟨0, h⟩) (iblk m c 0 ⟨0, h⟩) (iblk m c 1 ⟨0, h⟩)
  | n + 1, h => k0_pay1 (grid0.coords ⟨n + 1, h⟩) (iblk m c 2 ⟨n + 1, h⟩) (iblk m c 0 ⟨n + 1, h⟩)
      (acc c n (Nat.lt_of_succ_lt h))

/-- The running maximum after the first point, from any old contents. -/
theorem acc_first (c : Dev nD) (t : Fin cfg0.N) (ht : t.val = 0) (s : Vec F S1024x1 .f32) :
    k0_pay1 (grid0.coords t) (iblk m c 2 t) (iblk m c 0 t) s = acc m c t.val t.isLt := by
  obtain ⟨n, h⟩ := t
  obtain rfl : n = 0 := ht
  exact pay1_first _ (coord_val ⟨0, h⟩) _ _ _ _

/-- The running maximum after a later point, from what the point before left. -/
theorem acc_next (c : Dev nD) (t : Fin cfg0.N) (ht : t.val ≠ 0) :
    k0_pay1 (grid0.coords t) (iblk m c 2 t) (iblk m c 0 t) (acc m c (t.val - 1) (Nat.lt_of_le_of_lt (Nat.sub_le _ _) t.isLt))
      = acc m c t.val t.isLt := by
  obtain ⟨n, h⟩ := t
  cases n with
  | zero => exact absurd rfl ht
  | succ n => rfl

/-- The scratch's memref. -/
abbrev scr : Memref sig .tc .vmem S1024x1 .f32 := Memref.whole cc0_scratch0

/-- What holds before position `n`: the scratch at anything before the first point, at the running maximum after it. -/
def Inv (c : Dev nD) : (n : ℕ) → n ≤ cfg0.N → sProp 𝕄
  | 0, _ => Pipeline.ΦA spec0 c
  | n + 1, h => iprop(owns (c : Thread nD τ) scr fullShare (acc m c n h) ∗ (∃ r, prngReg c r))

/-- The region's entry invariant: the scratch at some contents, and the generator register. -/
theorem entry_eq (c : Dev nD) :
    (Pipeline.ΦA spec0 c : sProp 𝕄) = iprop((∃ d, owns (c : Thread nD τ) scr fullShare d) ∗ (∃ r, prngReg c r)) := by
  unfold Pipeline.ΦA
  rw [scopedRest0_eq]
  simp only [scr, owns_whole]
  rfl

/-- Before a position that is not the first. -/
theorem Inv_pos (c : Dev nD) (n : ℕ) (h : n ≤ cfg0.N) (hn : n ≠ 0) :
    Inv m c n h = iprop(owns (c : Thread nD τ) scr fullShare (acc m c (n - 1) (by omega)) ∗ (∃ r, prngReg c r)) := by
  cases n with
  | zero => exact absurd rfl hn
  | succ n => rfl

/-- The pipeline's data: the arrays as the host lines before the region leave them; each input's buffer at its block; the
    output's at the distances of the running maximum; the scratch as `Inv` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (iblk m c 1 t) (acc m c t.val t.isLt)
  Φ t := Inv m c t.val (Nat.le_of_lt_succ t.isLt)
  q _ := fullShare
  owed _ := 0

/-- The data's arrays are the region-entry contents. -/
theorem dats_A (c : Dev nD) (w : Fin cfg0.W) : (dats m 0 c).A w = V m c (Pipeline.arrRef spec0 w) := by
  dsimp only [dats]

/-- The first input's buffer after the body: its block. -/
theorem after_q8 (c : Dev nD) (t : Fin cfg0.N) : (dats m 0 c).after 0 t = iblk m c 0 t := by dsimp only [dats]
/-- The second input's. -/
theorem after_qsq (c : Dev nD) (t : Fin cfg0.N) : (dats m 0 c).after 1 t = iblk m c 1 t := by dsimp only [dats]
/-- The third input's. -/
theorem after_mb (c : Dev nD) (t : Fin cfg0.N) : (dats m 0 c).after 2 t = iblk m c 2 t := by dsimp only [dats]
/-- The output's buffer after the body. -/
theorem after_out (c : Dev nD) (t : Fin cfg0.N) :
    (dats m 0 c).after 3 t = k0_pay2 (iblk m c 1 t) (acc m c t.val t.isLt) := by dsimp only [dats]

/-- The invariant at a point's start. -/
theorem Phi_start (c : Dev nD) (t : Fin cfg0.N) : (dats m 0 c).Φ t.castSucc = Inv m c t.val (Nat.le_of_lt t.isLt) := by
  dsimp only [dats]; exact Pipeline.Dat.Φ_castSucc (Inv m c) t

/-- An input the body never leaves idle is handed back at its block. -/
theorem leaves_live (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact
  rw [h]

/-- What the body is called with at point `t`. -/
def atStart (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def atEnd (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

/-- What the invariant gives the body: the scratch at contents from which the point's running maximum comes out. -/
theorem Inv_scratch (c : Dev nD) (t : Fin cfg0.N) :
    Inv m c t.val (Nat.le_of_lt t.isLt)
      ⊢ iprop(∃ s, ⌜k0_pay1 (grid0.coords t) (iblk m c 2 t) (iblk m c 0 t) s = acc m c t.val t.isLt⌝
          ∗ owns (c : Thread nD τ) scr fullShare s ∗ (∃ r, prngReg c r)) := by
  by_cases hz : t.val = 0
  · have e : Inv m c t.val (Nat.le_of_lt t.isLt) = Pipeline.ΦA spec0 c := by
      obtain ⟨n, h⟩ := t
      obtain rfl : n = 0 := hz
      rfl
    rw [e, entry_eq]
    iintro ⟨⟨%s, HS⟩, Hg⟩
    iexists s; isplitr
    · ipureintro; exact acc_first m c t hz s
    isplitl [HS]; · iexact HS
    iexact Hg
  · rw [Inv_pos m c _ _ hz]
    iintro ⟨HS, Hg⟩
    iexists _; isplitr
    · ipureintro; exact acc_next m c t hz
    isplitl [HS]; · iexact HS
    iexact Hg

set_option maxHeartbeats 2000000 in
/-- The body at any point takes what it is called with to what it returns. -/
theorem body_point (c : Dev nD) (t : Fin cfg0.N) :
    atStart m c t ⊢ wp frame (wpE (defs₀ (F := F)) Variants.none c none) Set.univ (bodyAt0 t) (fun _ => atEnd m c t) := by
  unfold atStart atEnd bodyAt0
  simp only [before0_0_of m (dats m 0 c) (dats_A m c 0) (after_q8 m c), before0_1_of m (dats m 0 c) (dats_A m c 1) (after_qsq m c),
    before0_2_of m (dats m 0 c) (dats_A m c 2) (after_mb m c)]
  rw [show (dats m 0 c).owesAt () t.succ = (dats m 0 c).owesAt () t.castSucc from rfl,
    show (dats m 0 c).Φ t.succ = iprop(owns (c : Thread nD τ) scr fullShare (acc m c t.val t.isLt) ∗ (∃ r, prngReg c r)) from rfl,
    Phi_start, leaves_live m c 0 t rfl, leaves_live m c 1 t rfl, leaves_live m c 2 t rfl, after_q8, after_qsq, after_mb]
  refine (sep_mono_left (Inv_scratch m c t)).trans ?_
  by_cases h9 : t.val = 9
  · rw [leaves_live m c 3 t (out_live t h9), after_out]
    iintro ⟨⟨%s, %hs, HS, Hg⟩, Ho, ⟨%d0, H0⟩, ⟨%d1, H1⟩, ⟨%d2, H2⟩, ⟨%d3, H3⟩⟩
    rw [← hs]
    iapply (body_last c (grid0.coords t) _ _ _ _ _ _ _ _ _ _ ((cond_iff t).mpr h9) (iblk m c 0 t) (iblk m c 1 t) (iblk m c 2 t) _ s Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    iexact H3
  · rw [Dat.leavesExact_idle (dats m 0 c) 3 t (out_idle t h9).1 (out_idle t h9).2]
    iintro ⟨⟨%s, %hs, HS, Hg⟩, Ho, ⟨%d0, H0⟩, ⟨%d1, H1⟩, ⟨%d2, H2⟩, ⟨%d3, H3⟩⟩
    rw [← hs]
    iapply (body_early c (grid0.coords t) _ _ _ _ _ _ _ _ _ _ (fun h => h9 ((cond_iff t).mp h)) (iblk m c 0 t) (iblk m c 1 t) (iblk m c 2 t) _ s Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    iexists _; iexact H3

/-- The body table's row at point `t` is the body there. -/
theorem row_eq (t : Fin cfg0.N) : defs₀ (F := F) .tc cfg0.body (cfg0.bodyArgs t (cfg0.slots t)) = bodyAt0 t := by
  unfold defs₀; rw [Defs.onTc_tc]

/-- The pipeline's obligation about the body. -/
theorem body_ok (c : Dev nD) : BodyObligation (dats (F := F) m 0 c) (defs₀ (F := F)) Variants.none () Set.univ := fun t => by
  rw [bigSep_W0, bigSep_W0, row_eq]
  exact triple_restated (body_point m c t) rfl .rfl fun _ => .rfl

/-- The launch's entry invariant is the one before the first point. -/
theorem inv_in (c : Dev nD) : Pipeline.ΦA spec0 c ⊢ (dats m 0 c).Φ 0 :=
  Idealize.SL.BI.Entails.refl _

/-- After the last point the scratch's contents are forgotten. -/
theorem inv_out (c : Dev nD) : (dats m 0 c).Φ (Fin.last cfg0.N) ⊢ Pipeline.ΦA spec0 c := by
  rw [show (dats m 0 c).Φ (Fin.last cfg0.N) = Inv m c cfg0.N le_rfl from rfl,
    Inv_pos m c _ _ (by rw [show cfg0.N = 10 from N_0]; decide), entry_eq]
  iintro ⟨HS, Hg⟩
  isplitl [HS]
  · iexists _; iexact HS
  iexact Hg

set_option backward.isDefEq.respectTransparency.types false in
set_option maxHeartbeats 800000 in
/-- The whole program's run: the arrays end as the data says, the other buffers as the host lines after the region
    leave them, and the counters end at zero. -/
theorem launch_run : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_ok m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hin := inv_in m) (hout := inv_out m)

/-- The program ends with its arguments unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (dats_A m) ((θ_run defs _ _).mono (fun _ h => h.1) (launch_run m ρ)))
    ((θ_run defs _ _).mono (fun _ h => h.2) (launch_run m ρ))

end Cert.KernelIdeal.Knn

end
-- ==== Proof.RefFrame.lean ====
/- The reference's run ends with its arguments unchanged and every counter at zero. -/
module

public import proofs.«01_k».proof.Proof.Gen.ReferenceIdeal.Run
public import Idealize.ShloMosaic.Lib.Claim

@[expose] public section

noncomputable section

namespace Cert.ReferenceIdeal.Knn

open Idealize.ShloMosaic Idealize.ShloMosaic.TcCoe Idealize.SL.Sem

variable {F : FTy → Type} [FloatOps F]

/-- The reference leaves both arguments as they were, and has no semaphore to leave at anything but zero. -/
theorem quiet (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (Value.run m ρ)

end Cert.ReferenceIdeal.Knn

end
-- ==== Proof.Distance.lean ====
/- Extended-real facts about nearest distances: the distance is a decreasing function of a score, so the distance of
   the greatest score is the least distance. No program is mentioned here. -/
module

public import Idealize.ShloMosaic.PureOps.Ideal
public import Idealize.ShloMosaic.PureOps.Ideal.Laws
public import Mathlib.Data.EReal.Operations

@[expose] public section

noncomputable section

namespace Cert.Knn

open Idealize.ShloMosaic

/-- The ideal square root is monotone on all extended reals. -/
theorem sqrt_mono : Monotone Ideal.sqrt := by
  intro x y h
  induction x with
  | bot => exact bot_le
  | top =>
    obtain rfl : y = ⊤ := top_le_iff.mp h
    exact le_rfl
  | coe a =>
    induction y with
    | bot => exact absurd h (not_le.mpr (EReal.bot_lt_coe a))
    | top => exact le_top
    | coe b =>
      have hab : a ≤ b := EReal.coe_le_coe_iff.mp h
      simp only [Ideal.sqrt_coe]
      by_cases ha : a < 0
      · rw [if_pos ha]; exact bot_le
      · rw [if_neg ha, if_neg (not_lt.mpr ((not_lt.mp ha).trans hab))]
        exact EReal.coe_le_coe_iff.mpr (Real.sqrt_le_sqrt hab)

/-- The distance read off a score `x`: half the squared norm of the query less half the squared distance. -/
def fromScore (e Q x : EReal) : EReal := Ideal.sqrt (max (Q - ((2 : ℝ) : EReal) * x) e)

/-- A greater score is a lesser distance. -/
theorem fromScore_antitone (e Q : EReal) : Antitone (fromScore e Q) := by
  intro x y h
  refine sqrt_mono (max_le_max ?_ le_rfl)
  exact EReal.sub_le_sub le_rfl (mul_le_mul_of_nonneg_left h (by exact_mod_cast (by norm_num : (0 : ℝ) ≤ 2)))

/-- The expanded square `Q + μ - 2 d` is `Q - 2 (d - μ / 2)` for a real `μ` and any extended reals `Q` and `d`. -/
theorem square_shift (Q d : EReal) (μ : ℝ) :
    Q + (μ : EReal) - ((2 : ℝ) : EReal) * d
      = Q - ((2 : ℝ) : EReal) * (d + (((-(1 / 2) : ℝ)) : EReal) * (μ : EReal)) := by
  have two : (0 : ℝ) < 2 := by norm_num
  rw [← EReal.coe_mul]
  induction d with
  | bot =>
    rw [EReal.coe_mul_bot_of_pos two, EReal.bot_add, EReal.coe_mul_bot_of_pos two]
    induction Q with
    | bot => simp
    | top => simp
    | coe q => rw [← EReal.coe_add, EReal.coe_sub_bot, EReal.coe_sub_bot]
  | top =>
    rw [EReal.coe_mul_top_of_pos two, EReal.top_add_coe, EReal.coe_mul_top_of_pos two]
    simp [EReal.sub_top]
  | coe d =>
    rw [← EReal.coe_add, ← EReal.coe_mul, ← EReal.coe_mul]
    induction Q with
    | bot => simp [sub_eq_add_neg]
    | top => rw [EReal.top_add_coe, EReal.top_sub_coe, EReal.top_sub_coe]
    | coe q =>
      rw [← EReal.coe_add, ← EReal.coe_sub, ← EReal.coe_sub]
      congr 1
      ring

/-- The distance of the greatest score is the least distance: over finitely many entries, at least one, each with a
    real squared norm `μ k`. -/
theorem nearest {ι : Type} [Finite ι] [Nonempty ι] (e Q : EReal) (d : ι → EReal) (μ : ι → ℝ) :
    fromScore e Q (⨆ k, (d k + (((-(1 / 2) : ℝ)) : EReal) * (μ k : EReal)))
      = ⨅ k, Ideal.sqrt (max (Q + (μ k : EReal) - ((2 : ℝ) : EReal) * d k) e) := by
  simp only [square_shift]
  apply le_antisymm
  · exact le_iInf fun k => fromScore_antitone e Q (le_iSup (fun k => d k + (((-(1 / 2) : ℝ)) : EReal) * (μ k : EReal)) k)
  · obtain ⟨k, hk⟩ := exists_eq_ciSup_of_finite (f := fun k => d k + (((-(1 / 2) : ℝ)) : EReal) * (μ k : EReal))
    rw [← hk]
    exact iInf_le (fun k => Ideal.sqrt (max (Q - ((2 : ℝ) : EReal) * (d k + (((-(1 / 2) : ℝ)) : EReal) * (μ k : EReal))) e)) k

/-- A sum of squares of finite extended reals is a real. -/
theorem sum_sq_real {n : ℕ} (x : Fin n → EReal) (hx : ∀ j, ∃ a : ℝ, x j = a) : ∃ a : ℝ, ∑ j, x j * x j = (a : EReal) := by
  choose a ha using hx
  refine Finset.sum_induction (fun j => x j * x j) (fun y => ∃ b : ℝ, y = (b : EReal)) ?_ ⟨0, rfl⟩ ?_
  · rintro _ _ ⟨b, rfl⟩ ⟨b', rfl⟩
    exact ⟨b + b', (EReal.coe_add b b').symm⟩
  · intro j _
    exact ⟨a j * a j, by rw [ha j, EReal.coe_mul]⟩

/-- An extended real whose absolute value is below the top is a real. -/
theorem real_of_abs_lt (x : EReal) (h : max x (-x) < ⊤) : ∃ a : ℝ, x = a := by
  induction x with
  | bot => simp at h
  | top => simp at h
  | coe a => exact ⟨a, rfl⟩

/-- The maximum from the bottom over a finite range is the supremum. -/
theorem fold_max {n : ℕ} (f : Fin n → EReal) : Finset.univ.fold max ⊥ f = ⨆ k, f k := by
  rw [← Finset.sup_univ_eq_iSup]
  rfl

/-- The word `2.0`. -/
theorem word_two : Ideal.ofBits .f32 0x40000000#32 = ((2 : ℝ) : EReal) := by
  simp [Ideal.ofBits, Ideal.ieee, -EReal.coe_mul]
  norm_num

/-- The word `-0.5`. -/
theorem word_neg_half : Ideal.ofBits .f32 0xBF000000#32 = ((-(1 / 2) : ℝ) : EReal) := by
  simp [Ideal.ofBits, Ideal.ieee, -EReal.coe_mul, -EReal.coe_neg]
  norm_num

/-- The infinite word. -/
theorem word_top : Ideal.ofBits .f32 0x7F800000#32 = ⊤ := by
  simp [Ideal.ofBits, Ideal.ieee]

/-- The half-width word of minus infinity. -/
theorem word_bot : Ideal.ofBits .bf16 0xFF80#16 = ⊥ := by
  simp [Ideal.ofBits, Ideal.ieee]

end Cert.Knn

end
-- ==== Proof.IdealValue.lean ====
/- What the ideal kernel's blocks compute: a point's body takes the maximum of the old running maximum and the block's
   greatest score, and the last point turns the running maximum into a distance. -/
module

public import proofs.«01_k».proof.Proof.IdealFrame
public import proofs.«01_k».proof.Proof.Distance
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.KernelIdeal.Knn

open Idealize.ShloMosaic
open Idealize.ShloMosaic.TcCoe
open Cert.KernelIdeal.Gen Cert.Knn

/-- The score of bank row `y` for query row `x`: their product less half the row's squared norm. -/
def score (x y : Fin 768 → EReal) : EReal :=
  (∑ j, x j * y j) + (((-(1 / 2) : ℝ)) : EReal) * ∑ j, y j * y j

/-- The greatest score of a block's rows for query row `r`. -/
def blockBest (mb : Vec Ideal S5000x768 .f32) (q8 : Vec Ideal S1024x768 .fp8e4m3) (r : Fin 1024) : EReal :=
  ⨆ k : Fin 5000, score (fun j => q8 (ix2 r j)) (fun j => mb (ix2 k j))

/-- At the first point the running maximum becomes the block's greatest score. -/
theorem pay1_zero (i : grid0.Coords) (hi : (i 0).val = 0) (mb : Vec Ideal S5000x768 .f32)
    (q8 : Vec Ideal S1024x768 .fp8e4m3) (s : Vec Ideal S1024x1 .f32) (r : Fin 1024) :
    k0_pay1 (F := Ideal) i mb q8 s (ix2 r (0 : Fin 1)) = blockBest mb q8 r := by
  unfold k0_pay1
  pointwise
  rw [hi, word_bot, fold_max, word_neg_half]
  rfl

/-- At a later point it becomes the greater of the old one and the block's greatest score. -/
theorem pay1_later (i : grid0.Coords) (hi : (i 0).val ≠ 0) (mb : Vec Ideal S5000x768 .f32)
    (q8 : Vec Ideal S1024x768 .fp8e4m3) (s : Vec Ideal S1024x1 .f32) (r : Fin 1024) :
    k0_pay1 (F := Ideal) i mb q8 s (ix2 r (0 : Fin 1)) = max (s (ix2 r (0 : Fin 1))) (blockBest mb q8 r) := by
  have hc : Scalar.cmpi CmpIPredicate.eq (BitVec.ofNat 32 (i 0).val) 0#32 = 0#1 := by
    have := (i 0).isLt
    have h10 : (i 0).val < 10 := this
    word_cmp
  unfold k0_pay1
  pointwise
  rw [hc, word_bot, fold_max, word_neg_half]
  rfl

/-- The last point's distance: of the query's squared norm and the running maximum. -/
theorem pay2_at (a s : Vec Ideal S1024x1 .f32) (r : Fin 1024) :
    k0_pay2 (F := Ideal) a s (ix2 r (0 : Fin 1))
      = fromScore (Ideal.ofBits .f32 0x2B8CBCCC#32) (a (ix2 r (0 : Fin 1))) (s (ix2 r (0 : Fin 1))) := by
  unfold k0_pay2
  pointwise
  rw [word_two]
  rfl

variable (m : (ℓ : Loc nD τ sig) → Buf (Elt Ideal) ℓ)

/-- The queries' element. -/
abbrev qs (c : Dev nD) (r : Fin 1024) (j : Fin 768) : EReal := m ((c : Thread nD τ).loc main_arg0) (ix2 r j)
/-- The memory bank's element. -/
abbrev bank (c : Dev nD) (k : Fin 50000) (j : Fin 768) : EReal := m ((c : Thread nD τ).loc main_arg1) (ix2 k j)

/-- The grid's windows: the queries, their squared norms and the output are whole; the bank is cut by rows. -/
theorem index_0 : ∀ t : Fin cfg0.N, win0_0.index t = ![0, 0] := by decide +kernel
theorem index_1 : ∀ t : Fin cfg0.N, win0_1.index t = ![0, 0] := by decide +kernel
theorem index_2 : ∀ t : Fin cfg0.N, win0_2.index t = ![t.val, 0] := by decide +kernel
theorem index_3 : ∀ t : Fin cfg0.N, win0_3.index t = ![0, 0] := by decide +kernel

/-- The first window's block is the queries. -/
theorem iblk_q (c : Dev nD) (t : Fin cfg0.N) (r : Fin 1024) (j : Fin 768) :
    iblk m c 0 t (ix2 r j) = qs m c r j := by
  have h : iblk m c 0 t (ix2 r j) = V m c main_v0 (ix2 r j) := by
    blk_ext [iblk, index_0 t]
  rw [h]
  unfold V
  after_reads_at

/-- The second window's block is their squared norms. -/
theorem iblk_qsq (c : Dev nD) (t : Fin cfg0.N) (r : Fin 1024) :
    iblk m c 1 t (ix2 r (0 : Fin 1)) = ∑ j, qs m c r j * qs m c r j := by
  have h : iblk m c 1 t (ix2 r (0 : Fin 1)) = V m c main_v3 (ix2 r (0 : Fin 1)) := by
    blk_ext [iblk, index_1 t]
  rw [h]
  unfold V
  after_reads_at

/-- The third window's block at point `t` is the bank's rows from `5000 t`. -/
theorem iblk_bank (c : Dev nD) (t : Fin cfg0.N) (k : Fin 5000) (j : Fin 768) :
    iblk m c 2 t (ix2 k j) = bank m c ⟨5000 * t.val + k.val, by have := point_lt t; omega⟩ j := by
  have h : iblk m c 2 t (ix2 k j) = V m c main_arg1 (ix2 ⟨5000 * t.val + k.val, by have := point_lt t; omega⟩ j) := by
    blk_ext [iblk, index_2 t]
  rw [h, V_main_arg1]

end Cert.KernelIdeal.Knn

end
-- ==== Proof.IdealResult.lean ====
/- What the ideal kernel's result holds: for each query, the distance of the greatest score over the whole bank. -/
module

public import proofs.«01_k».proof.Proof.IdealValue

@[expose] public section

set_option maxRecDepth 16384

noncomputable section

namespace Cert.KernelIdeal.Knn

open Idealize.ShloMosaic
open Idealize.ShloMosaic.TcCoe
open Idealize.SL.Sem
open Cert.KernelIdeal.Gen Cert.Knn

/-- The supremum over the rows before block `n`, joined with the block's, is the supremum over the rows before the next
    block. -/
theorem sup_step (f : Fin 50000 → EReal) (n : ℕ) (hn : n < 10) :
    max (⨆ K : Fin 50000, ⨆ _ : K.val < 5000 * n, f K) (⨆ k : Fin 5000, f ⟨5000 * n + k.val, by omega⟩)
      = ⨆ K : Fin 50000, ⨆ _ : K.val < 5000 * (n + 1), f K := by
  apply le_antisymm
  · refine max_le (iSup₂_le fun K hK => ?_) (iSup_le fun k => ?_)
    · exact le_iSup₂_of_le K (by omega) le_rfl
    · exact le_iSup₂_of_le ⟨5000 * n + k.val, by omega⟩ (show 5000 * n + k.val < 5000 * (n + 1) by omega) le_rfl
  · refine iSup₂_le fun K hK => ?_
    by_cases h : K.val < 5000 * n
    · exact le_max_of_le_left (le_iSup₂_of_le K h le_rfl)
    · refine le_max_of_le_right (le_iSup_of_le ⟨K.val - 5000 * n, by omega⟩ (le_of_eq ?_))
      exact congrArg f (Fin.ext (by show K.val = 5000 * n + (K.val - 5000 * n); omega))

variable (m : (ℓ : Loc nD τ sig) → Buf (Elt Ideal) ℓ) (ρ : Dev nD → PrngReg)

/-- The score of bank row `K` for query `r`. -/
def rowScore (c : Dev nD) (r : Fin 1024) (K : Fin 50000) : EReal := score (qs m c r) (bank m c K)

/-- A point's greatest score is the supremum over its rows of the bank. -/
theorem blockBest_at (c : Dev nD) (t : Fin cfg0.N) (r : Fin 1024) :
    blockBest (iblk m c 2 t) (iblk m c 0 t) r
      = ⨆ k : Fin 5000, rowScore m c r ⟨5000 * t.val + k.val, by have := point_lt t; omega⟩ := by
  unfold blockBest rowScore
  refine iSup_congr fun k => ?_
  exact congrArg₂ score (funext fun j => iblk_q m c t r j) (funext fun j => iblk_bank m c t k j)

/-- The running maximum after point `n` is the supremum over the rows up to its block's end. -/
theorem acc_at (c : Dev nD) (r : Fin 1024) : ∀ (n : ℕ) (hn : n < cfg0.N),
    acc m c n hn (ix2 r (0 : Fin 1)) = ⨆ K : Fin 50000, ⨆ _ : K.val < 5000 * (n + 1), rowScore m c r K
  | 0, hn => by
    refine (pay1_zero _ (coord_val ⟨0, hn⟩) _ _ _ _).trans ((blockBest_at m c ⟨0, hn⟩ r).trans ?_)
    rw [← sup_step (rowScore m c r) 0 (by decide)]
    simp
  | n + 1, hn => by
    have h10 : n + 1 < 10 := lt_of_lt_of_eq hn N_0
    refine (pay1_later _ (by rw [coord_val ⟨n + 1, hn⟩]; exact Nat.succ_ne_zero n) _ _ _ _).trans ?_
    rw [blockBest_at m c ⟨n + 1, hn⟩ r, acc_at c r n (Nat.lt_of_succ_lt hn)]
    exact sup_step (rowScore m c r) (n + 1) h10

/-- After the last point it is the supremum over the whole bank. -/
theorem acc_last (c : Dev nD) (r : Fin 1024) (hn : 9 < cfg0.N) :
    acc m c 9 hn (ix2 r (0 : Fin 1)) = ⨆ K, rowScore m c r K := by
  rw [acc_at m c r 9 hn]
  exact iSup_congr fun K => iSup_pos (by have := K.isLt; omega)

/-- The distance of query `r` as the kernel computes it. -/
def dist (c : Dev nD) (r : Fin 1024) : EReal :=
  fromScore (Ideal.ofBits .f32 0x2B8CBCCC#32) (∑ j, qs m c r j * qs m c r j) (⨆ K, rowScore m c r K)

/-- The output array after the run. -/
def outArr (c : Dev nD) : Vec Ideal S1024x1 .f32 := fun i => dist m c (i 0)

/-- What the last point leaves in the output's buffer. -/
theorem after_last (c : Dev nD) (t : Fin cfg0.N) (ht : t.val = 9) (r : Fin 1024) :
    k0_pay2 (iblk m c 1 t) (acc m c t.val t.isLt) (ix2 r (0 : Fin 1)) = dist m c r := by
  obtain ⟨n, hn⟩ := t
  obtain rfl : n = 9 := ht
  rw [pay2_at, iblk_qsq, acc_last]
  rfl

/-- The output array ends at the distances. -/
theorem final_out (c : Dev nD) : (dats (F := Ideal) m 0 c).arrAt 3 cfg0.N = outArr m c := by
  refine (dats m 0 c).arrAt_eq_of_covers 3 _ (by decide +kernel) fun t hf y => ?_
  have ht : t.val = 9 := by have := (flush0_3 t).mp hf; have := point_lt t; omega
  blk_simp
  rw [after_out]
  obtain ⟨r, rfl⟩ : ∃ r : Fin 1024, y = ix2 r (0 : Fin 1) := ⟨y 0, by blk_ext⟩
  refine (after_last m c t ht r).trans (congrArg (dist m c) (Fin.ext ?_))
  blk_simp [index_3 t]

/-- The result is the output array with its unit axis dropped. -/
theorem final_result (c : Dev nD) (i : S1024.Idx) :
    Pipeline.afterTail₀ cfgs (dats (F := Ideal) m) 0 (V0 m) [hostOps1] c main_v5 i = dist m c (i 0) := by
  have h : ∀ j, Pipeline.withArrays (cfgs 0).spec c (V0 m c) (fun w => (dats (F := Ideal) m 0 c).arrAt w (cfgs 0).N)
      (Proc.devRef .tc main_v4) j = outArr m c j := by
    intro j
    rw [← final_out]
    exact congrFun (Pipeline.withArrays_arr spec0 winFacts0.arr_inj c (V0 m c) _ 3) j
  unfold Pipeline.afterTail₀
  after_reads_at
  exact h (ix2 (i 0) (0 : Fin 1))

/-- The ideal kernel ends with the distances as its result and its arguments unchanged. -/
theorem run_value : θ_run defs (onTc (τ := τ) (main (F := Ideal))) ⟨m, fun _ => 0, ρ⟩ (fun r => ∀ c : Dev nD,
      r.2.mem ((c.tc : Thread nD τ).loc main_v5) = (fun i => dist m c (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hv : θ_run defs (onTc (τ := τ) (main (F := Ideal))) ⟨m, fun _ => 0, ρ⟩ (fun r => ∀ c : Dev nD,
      r.2.mem ((c.tc : Thread nD τ).loc main_v5) = (fun i => dist m c (i 0))) :=
    (θ_run defs _ _).mono (fun _ h c => ((h.1 c).2 main_v5 (Pipeline.mem_restRefs_of main_v5 (by decide) (by decide))).trans
      (funext fun i => final_result m c i)) (launch_run m ρ)
  exact (θ_run defs _ _).mono (fun _ h c => ⟨h.1 c, h.2.1 c⟩) (θ_run_and hv (quiet m ρ))

end Cert.KernelIdeal.Knn

end
-- ==== Proof.RefValue.lean ====
/- What the ideal reference computes: for each query, the least distance over the bank. -/
module

public import proofs.«01_k».proof.Proof.Gen.ReferenceIdeal.Read
public import proofs.«01_k».proof.Proof.Distance
public import Idealize.ShloMosaic.Lib.SortFacts
public import Idealize.ShloMosaic.Lib.Pointwise

@[expose] public section

set_option maxRecDepth 16384

noncomputable section

namespace Cert.ReferenceIdeal.Knn

open Idealize.ShloMosaic
open Idealize.ShloMosaic.TcCoe
open Cert.ReferenceIdeal.Gen Cert.ReferenceIdeal.Read Cert.Knn

/-- The greatest of a row comes first in its sorted order: the first of a row sorted greatest first is the row's
    supremum. -/
theorem first_is_sup {n : ℕ} (f : Fin n → EReal) (h0 : 0 < n) :
    f (sortedFrom (fun k k' => BitVec.ofBool (decide (f k' < f k)) == 1#1) ⟨0, h0⟩) = ⨆ k, f k := by
  set R : Fin n → Fin n → Bool := fun k k' => BitVec.ofBool (decide (f k' < f k)) == 1#1 with hR
  have hRv : ∀ k k', R k k' = decide (f k' < f k) := by
    intro k k'
    by_cases h : f k' < f k <;> simp [hR, h]
  refine le_antisymm (le_iSup f _) (iSup_le fun k => ?_)
  obtain ⟨p, rfl⟩ := sortedFrom_surjective R k
  by_cases hp : p = ⟨0, h0⟩
  · rw [hp]
  · have hlt : (⟨0, h0⟩ : Fin n) < p := by
      rcases Nat.eq_zero_or_pos p.val with h | h
      · exact absurd (Fin.ext h) hp
      · exact h
    have := sortedFrom_noInversion R R
      (fun a b h => by rw [hRv] at h ⊢; exact decide_eq_false (not_lt.mpr (of_decide_eq_true h).le)) (fun _ _ h => h)
      (fun a b c h h' => by
        rw [hRv] at h h' ⊢
        exact decide_eq_false (not_lt.mpr ((not_lt.mp (of_decide_eq_false h)).trans (not_lt.mp (of_decide_eq_false h')))))
      ⟨0, h0⟩ p hlt
    rw [hRv] at this
    exact not_lt.mp (of_decide_eq_false this)

variable (x0 : (⟨S1024x768, .f32⟩ : BufTy).Contents (Elt Ideal)) (x1 : (⟨S50000x768, .f32⟩ : BufTy).Contents (Elt Ideal))

/-- The distance from query `r` to bank row `k`, by the expanded square. -/
def rowDist (r : Fin 1024) (k : Fin 50000) : EReal :=
  Ideal.sqrt (max ((∑ j : Fin 768, x0 (ix2 r j) * x0 (ix2 r j)) + (∑ j : Fin 768, x1 (ix2 k j) * x1 (ix2 k j))
    - ((2 : ℝ) : EReal) * ∑ j : Fin 768, x0 (ix2 r j) * x1 (ix2 k j)) (Ideal.ofBits .f32 0x2B8CBCCC#32))

/-- The reference's table of negated distances. -/
theorem neg_dist (r : Fin 1024) (k : Fin 50000) : val_main_v17 (F := Ideal) x0 x1 (ix2 r k) = -rowDist x0 x1 r k := by
  unfold val_main_v17 val_main_v16 val_main_v15 val_main_v14 val_main_cst_2 val_main_v13 val_main_v12 val_main_v11
    val_main_cst_1 val_main_v10 val_main_v9 val_main_v8 val_main_v7 val_main_v6 val_main_v5 val_main_v4 val_main_cst_0
    val_main_v3 val_main_v2 val_main_v1 val_main_cst val_main_v0
  pointwise
  rw [word_two]
  rfl

/-- The greatest negated distance is the supremum of the negated distances. -/
theorem top_at (r : Fin 1024) : val_main_values (F := Ideal) x0 x1 (ix2 r (0 : Fin 1)) = ⨆ k, -rowDist x0 x1 r k := by
  rw [← iSup_congr (neg_dist x0 x1 r)]
  unfold val_main_values
  generalize val_main_v17 (F := Ideal) x0 x1 = y
  rw [← first_is_sup (fun k => y (ix2 r k)) (by decide)]
  have along_row : ∀ (j : S1024x50000.Idx) (k : Fin 50000), j 0 = r →
      j.along (⟨1, Nat.one_lt_two⟩ : Fin S1024x50000.rank) k = ix2 r k := by
    intro j k hj
    funext a
    match a with
    | ⟨0, _⟩ => exact hj
    | ⟨1, _⟩ => rfl
  unfold Host.topK
  dsimp only
  rw [extractStridedSlice_apply _ _ _ _ (ix2 r (⟨0, by decide⟩ : Fin 50000)) (fun a => match a with
    | ⟨0, _⟩ => by show r.val = 0 + r.val; omega
    | ⟨1, _⟩ => rfl)]
  unfold Host.sort2
  rw [dif_pos (by decide)]
  dsimp only
  refine (congrArg y (along_row (ix2 r (⟨0, by decide⟩ : Fin 50000)) _ rfl)).trans ?_
  refine congrArg (fun R => y (ix2 r (sortedFrom R (⟨0, by decide⟩ : Fin 50000)))) ?_
  funext k k'
  exact congrArg₂ (fun a b => BitVec.ofBool (decide (y b < y a)) == 1#1)
    (along_row (ix2 r (⟨0, by decide⟩ : Fin 50000)) k rfl) (along_row (ix2 r (⟨0, by decide⟩ : Fin 50000)) k' rfl)

/-- The supremum of negatives is the negative of the infimum. -/
theorem neg_sup_neg {ι : Type} (f : ι → EReal) : -(⨆ k, -f k) = ⨅ k, f k := by
  apply le_antisymm
  · exact le_iInf fun k => EReal.neg_le.mpr (le_iSup (fun k => -f k) k)
  · rw [EReal.le_neg]
    exact iSup_le fun k => EReal.neg_le_neg_iff.mpr (iInf_le f k)

/-- The reference's result is the least distance. -/
theorem result_at (r : Fin 1024) : val_main_v21 (F := Ideal) x0 x1 (ix1 r) = ⨅ k, rowDist x0 x1 r k := by
  rw [← neg_sup_neg, ← top_at]
  unfold val_main_v21 val_main_v20 val_main_v19 val_main_v18 val_main_cst_4 val_main_cst_3
  generalize val_main_values (F := Ideal) x0 x1 = y
  pointwise
  simp [Ideal.div]

end Cert.ReferenceIdeal.Knn

end
-- ==== Proof.Equation.lean ====
/- The equation: over a finite bank the distance of the greatest score, which the kernel computes, is the least
   distance, which the reference computes. -/
module

public import proofs.«01_k».proof.Defs
public import proofs.«01_k».proof.Proof.IdealResult
public import proofs.«01_k».proof.Proof.RefValue

@[expose] public section

set_option maxRecDepth 16384

noncomputable section

namespace Cert.Knn

open Idealize.ShloMosaic
open Idealize.ShloMosaic.TcCoe
open Idealize.SL.Sem

/-- The precondition's one side condition: a scalar broadcasts to the bank's shape. -/
theorem preFacts : Cert.Pre_finite_bank.Facts := ⟨by decide⟩

/-- Where the precondition's mask is set, the bank's element is a real. -/
theorem bank_real [Cert.Pre_finite_bank.Facts] (q : FVec Ideal Cert.Pre_finite_bank.S1024x768 .f32)
    (b : FVec Ideal Cert.Pre_finite_bank.S50000x768 .f32)
    (h : Cert.Pre_finite_bank.fn (F := Ideal) q b = fun _ => 1#1) (k : Fin 50000) (j : Fin 768) :
    ∃ a : ℝ, b (ix2 k j) = (a : EReal) := by
  have e := congrFun h (ix2 k j)
  unfold Cert.Pre_finite_bank.fn at e
  dsimp only at e
  pointwise at e
  rw [word_top] at e
  refine real_of_abs_lt _ ?_
  by_contra hn
  rw [show FloatOps.absf (b (ix2 k j)) = max (b (ix2 k j)) (-(b (ix2 k j))) from rfl, decide_eq_false hn] at e
  exact absurd e (by decide)

/-- The distances agree: the kernel's, from the greatest score, and the reference's, the least over the bank. -/
theorem dist_eq (m : (ℓ : Loc Cert.KernelIdeal.nD Cert.KernelIdeal.τ Cert.KernelIdeal.sig) → Buf (Elt Ideal) ℓ)
    (c : Dev Cert.KernelIdeal.nD) (hb : ∀ k j, ∃ a : ℝ, Cert.KernelIdeal.Knn.bank m c k j = (a : EReal)) (r : Fin 1024) :
    Cert.KernelIdeal.Knn.dist m c r
      = ⨅ k, Cert.ReferenceIdeal.Knn.rowDist (m ((c.tc : Thread _ _).loc Cert.KernelIdeal.main_arg0))
          (m ((c.tc : Thread _ _).loc Cert.KernelIdeal.main_arg1)) r k := by
  choose μ hμ using fun k => sum_sq_real (Cert.KernelIdeal.Knn.bank m c k) (hb k)
  unfold Cert.KernelIdeal.Knn.dist Cert.KernelIdeal.Knn.rowScore Cert.KernelIdeal.Knn.score Cert.ReferenceIdeal.Knn.rowDist
  simp only [hμ]
  rw [nearest]

/-- From memories with the same arguments and a finite bank, both ideal programs run and end with equal results. -/
theorem equation [Cert.Pre_finite_bank.Facts] : Cert.algebraic_KernelIdeal_ReferenceIdeal_pre_finite_bank := by
  intro m g m' g' hpre hargs
  refine ⟨fun c i => Cert.KernelIdeal.Knn.dist m c (i 0), Cert.KernelIdeal.Knn.run_value m g,
    (θ_run _ _ _).mono (fun r h c => ⟨(h c).1.trans ?_, (h c).2⟩) (Cert.ReferenceIdeal.Value.run m' g')⟩
  rw [Cert.ReferenceIdeal.Read.val_main_v21_eq, (hargs c).1, (hargs c).2]
  funext i
  obtain ⟨r, rfl⟩ : ∃ r : Fin 1024, i = ix1 r := ⟨i 0, by funext a; fin_cases a; rfl⟩
  rw [Cert.ReferenceIdeal.Knn.result_at]
  exact (dist_eq m c (fun k j => bank_real _ _ (hpre c) k j) r).symm

end Cert.Knn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.WordFrame
public import proofs.«01_k».proof.Proof.IdealFrame
public import proofs.«01_k».proof.Proof.RefFrame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Knn.preFacts,
    fun m ρ _ => Cert.Kernel.Knn.quiet m ρ,
    fun m ρ _ => Cert.KernelIdeal.Knn.quiet m ρ, fun m ρ _ => Cert.KernelIdeal.Knn.quiet m ρ,
    fun m ρ _ => Cert.ReferenceIdeal.Knn.quiet m ρ, fun m ρ _ => Cert.ReferenceIdeal.Knn.quiet m ρ,
    trivial,
    letI := Cert.Knn.preFacts
    Cert.Knn.equation⟩

end Cert.Proof

end
